-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x20x2 : Shape := ⟨3, ![4096, 20, 2]⟩
abbrev S4096x128x20x2 : Shape := ⟨4, ![4096, 128, 20, 2]⟩
abbrev S1x64 : Shape := ⟨2, ![1, 64]⟩
abbrev S64 : Shape := ⟨1, ![64]⟩
abbrev S64x64 : Shape := ⟨2, ![64, 64]⟩
abbrev S2x64 : Shape := ⟨2, ![2, 64]⟩
abbrev S4096x128x40 : Shape := ⟨3, ![4096, 128, 40]⟩
abbrev S4096x20x128 : Shape := ⟨3, ![4096, 20, 128]⟩
abbrev S256x128x40 : Shape := ⟨3, ![256, 128, 40]⟩
abbrev S256x20x128 : Shape := ⟨3, ![256, 20, 128]⟩
abbrev S32768x40 : Shape := ⟨2, ![32768, 40]⟩
abbrev S8x40 : Shape := ⟨2, ![8, 40]⟩
abbrev S8x32768 : Shape := ⟨2, ![8, 32768]⟩
abbrev S8x256x128 : Shape := ⟨3, ![8, 256, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x8 : Shape := ⟨2, ![256, 8]⟩
abbrev S256x8x1 : Shape := ⟨3, ![256, 8, 1]⟩
abbrev S1x1x64 : Shape := ⟨3, ![1, 1, 64]⟩
abbrev S256x8x64 : Shape := ⟨3, ![256, 8, 64]⟩
abbrev S2048x64 : Shape := ⟨2, ![2048, 64]⟩
abbrev S256x8x128 : Shape := ⟨3, ![256, 8, 128]⟩
abbrev S256x12x128 : Shape := ⟨3, ![256, 12, 128]⟩

abbrev nBuf : Space → Nat
  | .hbm => 12
  | .vmem => 12
  | .smem => 0
  | _ => 0

abbrev bufTy : (tb : Table) → Fin (tcTables nBuf tb) → BufTy
  | .hbm, ⟨0, _⟩ => ⟨S4096x20x2, .f32⟩
  | .hbm, ⟨1, _⟩ => ⟨S4096x128x20x2, .f32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S4096x128x40, .f32⟩
  | .hbm, ⟨11, _⟩ => ⟨S4096x20x128, .f32⟩
  | .local _ .vmem, ⟨0, _⟩ => ⟨S256x128x40, .f32⟩
  | .local _ .vmem, ⟨1, _⟩ => ⟨S256x128x40, .f32⟩
  | .local _ .vmem, ⟨2, _⟩ => ⟨S1x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S2x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S256x20x128, .f32⟩
  | .local _ .vmem, ⟨11, _⟩ => ⟨S256x20x128, .f32⟩
  | _, _ => ⟨S4096x20x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x20x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x20x2 : Shape := ⟨3, ![4096, 20, 2]⟩
abbrev S4096x128x20x2 : Shape := ⟨4, ![4096, 128, 20, 2]⟩
abbrev S1x64 : Shape := ⟨2, ![1, 64]⟩
abbrev S64 : Shape := ⟨1, ![64]⟩
abbrev S64x64 : Shape := ⟨2, ![64, 64]⟩
abbrev S2x64 : Shape := ⟨2, ![2, 64]⟩
abbrev S4096x128x1x2 : Shape := ⟨4, ![4096, 128, 1, 2]⟩
abbrev S4096x128x2 : Shape := ⟨3, ![4096, 128, 2]⟩
abbrev S_ : Shape := ⟨0, ![]⟩
abbrev S4096x128 : Shape := ⟨2, ![4096, 128]⟩
abbrev S4096x128x1 : Shape := ⟨3, ![4096, 128, 1]⟩
abbrev S4096 : Shape := ⟨1, ![4096]⟩
abbrev S4096x1 : Shape := ⟨2, ![4096, 1]⟩
abbrev S4096x2 : Shape := ⟨2, ![4096, 2]⟩
abbrev S4096x1x1 : Shape := ⟨3, ![4096, 1, 1]⟩
abbrev S4096x8x1 : Shape := ⟨3, ![4096, 8, 1]⟩
abbrev S4096x1x2 : Shape := ⟨3, ![4096, 1, 2]⟩
abbrev S4096x8x2 : Shape := ⟨3, ![4096, 8, 2]⟩
abbrev S4096x8x64 : Shape := ⟨3, ![4096, 8, 64]⟩
abbrev S1x1x64 : Shape := ⟨3, ![1, 1, 64]⟩
abbrev S4096x8x128 : Shape := ⟨3, ![4096, 8, 128]⟩
abbrev S4096x20x128 : Shape := ⟨3, ![4096, 20, 128]⟩

abbrev nBuf : Space → Nat
  | .hbm => 311
  | .vmem => 0
  | .smem => 0
  | _ => 0

abbrev hbmTy0_0 (i : Nat) : BufTy := match i % 128 with
  | 0 => ⟨S4096x20x2, .f32⟩
  | 1 => ⟨S4096x128x20x2, .f32⟩
  | 2 => ⟨S1x64, .f32⟩
  | 3 => ⟨S64, .f32⟩
  | 4 => ⟨S64x64, .f32⟩
  | 5 => ⟨S64, .f32⟩
  | 6 => ⟨S2x64, .f32⟩
  | 7 => ⟨S64, .f32⟩
  | 8 => ⟨S64x64, .f32⟩
  | 9 => ⟨S64, .f32⟩
  | 10 => ⟨S4096x128x1x2, .f32⟩
  | 11 => ⟨S4096x128x2, .f32⟩
  | 12 => ⟨S4096x128x1x2, .f32⟩
  | 13 => ⟨S4096x128x2, .f32⟩
  | 14 => ⟨S4096x128x2, .f32⟩
  | 15 => ⟨S4096x128x1x2, .f32⟩
  | 16 => ⟨S4096x128x2, .f32⟩
  | 17 => ⟨S4096x128x2, .f32⟩
  | 18 => ⟨S_, .f32⟩
  | 19 => ⟨S4096x128, .f32⟩
  | 20 => ⟨S4096x128, .f32⟩
  | 21 => ⟨S4096x128x2, .f32⟩
  | 22 => ⟨S_, .f32⟩
  | 23 => ⟨S4096x128, .f32⟩
  | 24 => ⟨S4096x128, .f32⟩
  | 25 => ⟨S4096x128x1, .f32⟩
  | 26 => ⟨S4096x128, .f32⟩
  | 27 => ⟨S4096x128x1, .f32⟩
  | 28 => ⟨S4096x128, .f32⟩
  | 29 => ⟨S4096x128, .f32⟩
  | 30 => ⟨S_, .f32⟩
  | 31 => ⟨S_, .f32⟩
  | 32 => ⟨S4096x128, .f32⟩
  | 33 => ⟨S4096x128, .f32⟩
  | 34 => ⟨S_, .f32⟩
  | 35 => ⟨S4096x128, .f32⟩
  | 36 => ⟨S4096x128, .i1⟩
  | 37 => ⟨S_, .f32⟩
  | 38 => ⟨S4096x128, .f32⟩
  | 39 => ⟨S4096x128, .i1⟩
  | 40 => ⟨S_, .f32⟩
  | 41 => ⟨S_, .i1⟩
  | 42 => ⟨S4096x128, .i1⟩
  | 43 => ⟨S4096x128, .i1⟩
  | 44 => ⟨S4096x128, .i1⟩
  | 45 => ⟨S4096x128, .f32⟩
  | 46 => ⟨S4096x128, .f32⟩
  | 47 => ⟨S4096x128, .f32⟩
  | 48 => ⟨S_, .f32⟩
  | 49 => ⟨S4096x128, .f32⟩
  | 50 => ⟨S4096x128, .f32⟩
  | 51 => ⟨S4096x128, .i32⟩
  | 52 => ⟨S_, .f32⟩
  | 53 => ⟨S4096x128, .f32⟩
  | 54 => ⟨S4096x128, .f32⟩
  | 55 => ⟨S4096x128, .f32⟩
  | 56 => ⟨S4096x128, .i32⟩
  | 57 => ⟨S4096x128, .i32⟩
  | 58 => ⟨S_, .i32⟩
  | 59 => ⟨S4096x128, .i32⟩
  | 60 => ⟨S4096x128, .i32⟩
  | 61 => ⟨S_, .i32⟩
  | 62 => ⟨S4096x128, .i32⟩
  | 63 => ⟨S4096x128, .i32⟩
  | 64 => ⟨S4096x128, .i32⟩
  | 65 => ⟨S_, .i32⟩
  | 66 => ⟨S4096x128, .i32⟩
  | 67 => ⟨S4096x128, .i1⟩
  | 68 => ⟨S4096x128, .f32⟩
  | 69 => ⟨S_, .f32⟩
  | 70 => ⟨S4096, .f32⟩
  | 71 => ⟨S_, .f32⟩
  | 72 => ⟨S4096, .f32⟩
  | 73 => ⟨S4096, .f32⟩
  | 74 => ⟨S4096x128, .f32⟩
  | 75 => ⟨S_, .f32⟩
  | 76 => ⟨S4096, .f32⟩
  | 77 => ⟨S4096, .f32⟩
  | 78 => ⟨S4096x128, .f32⟩
  | 79 => ⟨S_, .f32⟩
  | 80 => ⟨S4096, .f32⟩
  | 81 => ⟨S4096, .f32⟩
  | 82 => ⟨S4096x128, .f32⟩
  | 83 => ⟨S_, .f32⟩
  | 84 => ⟨S4096, .f32⟩
  | 85 => ⟨S4096, .f32⟩
  | 86 => ⟨S4096x1, .f32⟩
  | 87 => ⟨S4096x1, .f32⟩
  | 88 => ⟨S4096x1, .f32⟩
  | 89 => ⟨S4096x2, .f32⟩
  | 90 => ⟨S_, .i32⟩
  | 91 => ⟨S4096x128, .i32⟩
  | 92 => ⟨S4096x128, .i1⟩
  | 93 => ⟨S4096x128, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x128, .f32⟩
  | 100 => ⟨S_, .f32⟩
  | 101 => ⟨S4096, .f32⟩
  | 102 => ⟨S4096, .f32⟩
  | 103 => ⟨S4096x128, .f32⟩
  | 104 => ⟨S_, .f32⟩
  | 105 => ⟨S4096, .f32⟩
  | 106 => ⟨S4096, .f32⟩
  | 107 => ⟨S4096x128, .f32⟩
  | 108 => ⟨S_, .f32⟩
  | 109 => ⟨S4096, .f32⟩
  | 110 => ⟨S4096, .f32⟩
  | 111 => ⟨S4096x1, .f32⟩
  | 112 => ⟨S4096x1, .f32⟩
  | 113 => ⟨S4096x1, .f32⟩
  | 114 => ⟨S4096x2, .f32⟩
  | 115 => ⟨S_, .i32⟩
  | 116 => ⟨S4096x128, .i32⟩
  | 117 => ⟨S4096x128, .i1⟩
  | 118 => ⟨S4096x128, .f32⟩
  | 119 => ⟨S_, .f32⟩
  | 120 => ⟨S4096, .f32⟩
  | 121 => ⟨S_, .f32⟩
  | 122 => ⟨S4096, .f32⟩
  | 123 => ⟨S4096, .f32⟩
  | 124 => ⟨S4096x128, .f32⟩
  | 125 => ⟨S_, .f32⟩
  | 126 => ⟨S4096, .f32⟩
  | 127 => ⟨S4096, .f32⟩
  | _ => ⟨S4096x20x2, .f32⟩

abbrev hbmTy0_1 (i : Nat) : BufTy := match i % 128 with
  | 0 => ⟨S4096x128, .f32⟩
  | 1 => ⟨S_, .f32⟩
  | 2 => ⟨S4096, .f32⟩
  | 3 => ⟨S4096, .f32⟩
  | 4 => ⟨S4096x128, .f32⟩
  | 5 => ⟨S_, .f32⟩
  | 6 => ⟨S4096, .f32⟩
  | 7 => ⟨S4096, .f32⟩
  | 8 => ⟨S4096x1, .f32⟩
  | 9 => ⟨S4096x1, .f32⟩
  | 10 => ⟨S4096x1, .f32⟩
  | 11 => ⟨S4096x2, .f32⟩
  | 12 => ⟨S_, .i32⟩
  | 13 => ⟨S4096x128, .i32⟩
  | 14 => ⟨S4096x128, .i1⟩
  | 15 => ⟨S4096x128, .f32⟩
  | 16 => ⟨S_, .f32⟩
  | 17 => ⟨S4096, .f32⟩
  | 18 => ⟨S_, .f32⟩
  | 19 => ⟨S4096, .f32⟩
  | 20 => ⟨S4096, .f32⟩
  | 21 => ⟨S4096x128, .f32⟩
  | 22 => ⟨S_, .f32⟩
  | 23 => ⟨S4096, .f32⟩
  | 24 => ⟨S4096, .f32⟩
  | 25 => ⟨S4096x128, .f32⟩
  | 26 => ⟨S_, .f32⟩
  | 27 => ⟨S4096, .f32⟩
  | 28 => ⟨S4096, .f32⟩
  | 29 => ⟨S4096x128, .f32⟩
  | 30 => ⟨S_, .f32⟩
  | 31 => ⟨S4096, .f32⟩
  | 32 => ⟨S4096, .f32⟩
  | 33 => ⟨S4096x1, .f32⟩
  | 34 => ⟨S4096x1, .f32⟩
  | 35 => ⟨S4096x1, .f32⟩
  | 36 => ⟨S4096x2, .f32⟩
  | 37 => ⟨S_, .i32⟩
  | 38 => ⟨S4096x128, .i32⟩
  | 39 => ⟨S4096x128, .i1⟩
  | 40 => ⟨S4096x128, .f32⟩
  | 41 => ⟨S_, .f32⟩
  | 42 => ⟨S4096, .f32⟩
  | 43 => ⟨S_, .f32⟩
  | 44 => ⟨S4096, .f32⟩
  | 45 => ⟨S4096, .f32⟩
  | 46 => ⟨S4096x128, .f32⟩
  | 47 => ⟨S_, .f32⟩
  | 48 => ⟨S4096, .f32⟩
  | 49 => ⟨S4096, .f32⟩
  | 50 => ⟨S4096x128, .f32⟩
  | 51 => ⟨S_, .f32⟩
  | 52 => ⟨S4096, .f32⟩
  | 53 => ⟨S4096, .f32⟩
  | 54 => ⟨S4096x128, .f32⟩
  | 55 => ⟨S_, .f32⟩
  | 56 => ⟨S4096, .f32⟩
  | 57 => ⟨S4096, .f32⟩
  | 58 => ⟨S4096x1, .f32⟩
  | 59 => ⟨S4096x1, .f32⟩
  | 60 => ⟨S4096x1, .f32⟩
  | 61 => ⟨S4096x2, .f32⟩
  | 62 => ⟨S_, .i32⟩
  | 63 => ⟨S4096x128, .i32⟩
  | 64 => ⟨S4096x128, .i1⟩
  | 65 => ⟨S4096x128, .f32⟩
  | 66 => ⟨S_, .f32⟩
  | 67 => ⟨S4096, .f32⟩
  | 68 => ⟨S_, .f32⟩
  | 69 => ⟨S4096, .f32⟩
  | 70 => ⟨S4096, .f32⟩
  | 71 => ⟨S4096x128, .f32⟩
  | 72 => ⟨S_, .f32⟩
  | 73 => ⟨S4096, .f32⟩
  | 74 => ⟨S4096, .f32⟩
  | 75 => ⟨S4096x128, .f32⟩
  | 76 => ⟨S_, .f32⟩
  | 77 => ⟨S4096, .f32⟩
  | 78 => ⟨S4096, .f32⟩
  | 79 => ⟨S4096x128, .f32⟩
  | 80 => ⟨S_, .f32⟩
  | 81 => ⟨S4096, .f32⟩
  | 82 => ⟨S4096, .f32⟩
  | 83 => ⟨S4096x1, .f32⟩
  | 84 => ⟨S4096x1, .f32⟩
  | 85 => ⟨S4096x1, .f32⟩
  | 86 => ⟨S4096x2, .f32⟩
  | 87 => ⟨S_, .i32⟩
  | 88 => ⟨S4096x128, .i32⟩
  | 89 => ⟨S4096x128, .i1⟩
  | 90 => ⟨S4096x128, .f32⟩
  | 91 => ⟨S_, .f32⟩
  | 92 => ⟨S4096, .f32⟩
  | 93 => ⟨S_, .f32⟩
  | 94 => ⟨S4096, .f32⟩
  | 95 => ⟨S4096, .f32⟩
  | 96 => ⟨S4096x128, .f32⟩
  | 97 => ⟨S_, .f32⟩
  | 98 => ⟨S4096, .f32⟩
  | 99 => ⟨S4096, .f32⟩
  | 100 => ⟨S4096x128, .f32⟩
  | 101 => ⟨S_, .f32⟩
  | 102 => ⟨S4096, .f32⟩
  | 103 => ⟨S4096, .f32⟩
  | 104 => ⟨S4096x128, .f32⟩
  | 105 => ⟨S_, .f32⟩
  | 106 => ⟨S4096, .f32⟩
  | 107 => ⟨S4096, .f32⟩
  | 108 => ⟨S4096x1, .f32⟩
  | 109 => ⟨S4096x1, .f32⟩
  | 110 => ⟨S4096x1, .f32⟩
  | 111 => ⟨S4096x2, .f32⟩
  | 112 => ⟨S_, .i32⟩
  | 113 => ⟨S4096x128, .i32⟩
  | 114 => ⟨S4096x128, .i1⟩
  | 115 => ⟨S4096x128, .f32⟩
  | 116 => ⟨S_, .f32⟩
  | 117 => ⟨S4096, .f32⟩
  | 118 => ⟨S_, .f32⟩
  | 119 => ⟨S4096, .f32⟩
  | 120 => ⟨S4096, .f32⟩
  | 121 => ⟨S4096x128, .f32⟩
  | 122 => ⟨S_, .f32⟩
  | 123 => ⟨S4096, .f32⟩
  | 124 => ⟨S4096, .f32⟩
  | 125 => ⟨S4096x128, .f32⟩
  | 126 => ⟨S_, .f32⟩
  | 127 => ⟨S4096, .f32⟩
  | _ => ⟨S4096x20x2, .f32⟩

abbrev hbmTy0_2 (i : Nat) : BufTy := match i % 128 with
  | 0 => ⟨S4096, .f32⟩
  | 1 => ⟨S4096x128, .f32⟩
  | 2 => ⟨S_, .f32⟩
  | 3 => ⟨S4096, .f32⟩
  | 4 => ⟨S4096, .f32⟩
  | 5 => ⟨S4096x1, .f32⟩
  | 6 => ⟨S4096x1, .f32⟩
  | 7 => ⟨S4096x1, .f32⟩
  | 8 => ⟨S4096x2, .f32⟩
  | 9 => ⟨S4096x1x1, .f32⟩
  | 10 => ⟨S4096x1x1, .f32⟩
  | 11 => ⟨S4096x1x1, .f32⟩
  | 12 => ⟨S4096x1x1, .f32⟩
  | 13 => ⟨S4096x1x1, .f32⟩
  | 14 => ⟨S4096x1x1, .f32⟩
  | 15 => ⟨S4096x1x1, .f32⟩
  | 16 => ⟨S4096x1x1, .f32⟩
  | 17 => ⟨S4096x8x1, .f32⟩
  | 18 => ⟨S4096x1x2, .f32⟩
  | 19 => ⟨S4096x1x2, .f32⟩
  | 20 => ⟨S4096x1x2, .f32⟩
  | 21 => ⟨S4096x1x2, .f32⟩
  | 22 => ⟨S4096x1x2, .f32⟩
  | 23 => ⟨S4096x1x2, .f32⟩
  | 24 => ⟨S4096x1x2, .f32⟩
  | 25 => ⟨S4096x1x2, .f32⟩
  | 26 => ⟨S4096x8x2, .f32⟩
  | 27 => ⟨S4096x8x64, .f32⟩
  | 28 => ⟨S1x1x64, .f32⟩
  | 29 => ⟨S4096x8x64, .f32⟩
  | 30 => ⟨S4096x8x64, .f32⟩
  | 31 => ⟨S_, .f32⟩
  | 32 => ⟨S4096x8x64, .f32⟩
  | 33 => ⟨S4096x8x64, .f32⟩
  | 34 => ⟨S4096x8x64, .f32⟩
  | 35 => ⟨S1x1x64, .f32⟩
  | 36 => ⟨S4096x8x64, .f32⟩
  | 37 => ⟨S4096x8x64, .f32⟩
  | 38 => ⟨S4096x8x64, .f32⟩
  | 39 => ⟨S4096x8x64, .f32⟩
  | 40 => ⟨S1x1x64, .f32⟩
  | 41 => ⟨S4096x8x64, .f32⟩
  | 42 => ⟨S4096x8x64, .f32⟩
  | 43 => ⟨S_, .f32⟩
  | 44 => ⟨S4096x8x64, .f32⟩
  | 45 => ⟨S4096x8x64, .f32⟩
  | 46 => ⟨S4096x8x64, .f32⟩
  | 47 => ⟨S1x1x64, .f32⟩
  | 48 => ⟨S4096x8x64, .f32⟩
  | 49 => ⟨S4096x8x64, .f32⟩
  | 50 => ⟨S4096x8x64, .f32⟩
  | 51 => ⟨S4096x8x128, .f32⟩
  | 52 => ⟨S_, .i32⟩
  | 53 => ⟨S_, .f32⟩
  | 54 => ⟨S4096x20x128, .f32⟩
  | _ => ⟨S4096x20x2, .f32⟩

abbrev hbmTy (i : Nat) : BufTy := match i / 128 with
  | 0 => hbmTy0_0 i
  | 1 => hbmTy0_1 i
  | 2 => hbmTy0_2 i
  | _ => ⟨S4096x20x2, .f32⟩

abbrev bufTy : (tb : Table) → Fin (tcTables nBuf tb) → BufTy
  | .hbm, ⟨i, _⟩ => hbmTy i
  | _, _ => ⟨S4096x20x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v7 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_cst : Ref sig .tc := ⟨.hbm, 34, rfl⟩
abbrev main_call2_v3 : Ref sig .tc := ⟨.hbm, 35, rfl⟩
abbrev main_call2_v4 : Ref sig .tc := ⟨.hbm, 36, rfl⟩
abbrev main_call2_cst_0 : Ref sig .tc := ⟨.hbm, 37, rfl⟩
abbrev main_call2_v5 : Ref sig .tc := ⟨.hbm, 38, rfl⟩
abbrev main_call2_v6 : Ref sig .tc := ⟨.hbm, 39, rfl⟩
abbrev main_call2_cst_1 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_v14 : Ref sig .tc := ⟨.hbm, 47, rfl⟩
abbrev main_cst_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c : Ref sig .tc := ⟨.hbm, 58, rfl⟩
abbrev main_v23 : Ref sig .tc := ⟨.hbm, 59, rfl⟩
abbrev main_v24 : Ref sig .tc := ⟨.hbm, 60, rfl⟩
abbrev main_c_2 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_4 : Ref sig .tc := ⟨.hbm, 69, rfl⟩
abbrev main_v31 : Ref sig .tc := ⟨.hbm, 70, rfl⟩
abbrev main_cst_5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_7 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_8 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_9 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_10 : Ref sig .tc := ⟨.hbm, 94, rfl⟩
abbrev main_v50 : Ref sig .tc := ⟨.hbm, 95, rfl⟩
abbrev main_cst_11 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_12 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_13 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_14 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_15 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_16 : Ref sig .tc := ⟨.hbm, 119, rfl⟩
abbrev main_v69 : Ref sig .tc := ⟨.hbm, 120, rfl⟩
abbrev main_cst_17 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_18 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_19 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_20 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_21 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_22 : Ref sig .tc := ⟨.hbm, 144, rfl⟩
abbrev main_v88 : Ref sig .tc := ⟨.hbm, 145, rfl⟩
abbrev main_cst_23 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_24 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_25 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_26 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_27 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_28 : Ref sig .tc := ⟨.hbm, 169, rfl⟩
abbrev main_v107 : Ref sig .tc := ⟨.hbm, 170, rfl⟩
abbrev main_cst_29 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_30 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_31 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_32 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_c_33 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_34 : Ref sig .tc := ⟨.hbm, 194, rfl⟩
abbrev main_v126 : Ref sig .tc := ⟨.hbm, 195, rfl⟩
abbrev main_cst_35 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_36 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_cst_37 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_38 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_c_39 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_40 : Ref sig .tc := ⟨.hbm, 219, rfl⟩
abbrev main_v145 : Ref sig .tc := ⟨.hbm, 220, rfl⟩
abbrev main_cst_41 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_42 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_cst_43 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_cst_44 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_c_45 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_cst_46 : Ref sig .tc := ⟨.hbm, 244, rfl⟩
abbrev main_v164 : Ref sig .tc := ⟨.hbm, 245, rfl⟩
abbrev main_cst_47 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_cst_48 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_cst_49 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_50 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_call3_cst : Ref sig .tc := ⟨.hbm, 287, rfl⟩
abbrev main_call3_v0 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_call4_cst : Ref sig .tc := ⟨.hbm, 299, rfl⟩
abbrev main_call4_v0 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_c_51 : Ref sig .tc := ⟨.hbm, 308, rfl⟩
abbrev main_call5_v0 : Ref sig .tc := ⟨.hbm, 309, rfl⟩
abbrev main_v219 : Ref sig .tc := ⟨.hbm, 310, rfl⟩

abbrev nD : Nat := 1
abbrev τ : Topo := Topo.v7x

variable {F : FTy → Type} [FloatOps F]
-- ==== Proof.Spec.lean ====
/- The mathematics both programs compute, over the extended reals, with no array and no program in it.

   An ego agent has 128 neighbours; a neighbour is a track of 20 frames with two coordinates each. Of a
   track the computation reads three numbers (how far it moved, how far away it ends, in which direction
   it ends) and a sector number (which eighth of the circle that direction lies in). Per sector the three
   numbers are averaged over the neighbours in it, and two small dense networks turn the averages into
   64 + 64 features. Rows 8 to 19 of the output are zero. -/
module

public import Idealize.ShloMosaic.Lib.Pointwise

@[expose] public section

noncomputable section

namespace Cert.Own

open Idealize.ShloMosaic

/-- A neighbour: 20 frames of two coordinates. -/
abbrev Track := Fin 20 → Fin 2 → EReal

/-- The single-precision number nearest to `2π`. -/
def twoPi : EReal := Ideal.ofBits .f32 0x40C90FDB#32

/-- The width of a sector: the single-precision number nearest to `2π / 8`. -/
def width : EReal := Ideal.ofBits .f32 0x3F490FDB#32

/-- What is added to a sector's number of neighbours before dividing by it. -/
def eps : EReal := Ideal.ofBits .f32 0x38D1B717#32

/-- How far the neighbour moves from the first frame to the last. -/
def speed (x : Track) : EReal :=
  Ideal.sqrt ((x 19 0 - x 0 0) * (x 19 0 - x 0 0) + (x 19 1 - x 0 1) * (x 19 1 - x 0 1))

/-- How far from the origin the neighbour is in the last frame. -/
def dist (x : Track) : EReal := Ideal.sqrt (x 19 0 * x 19 0 + x 19 1 * x 19 1)

/-- An angle of `(-π, π]` brought to the non-negative side by one turn. -/
def turn (a : EReal) : EReal := if a < 0 then a + twoPi else a

/-- The direction of the last frame, as an angle from `0` up to one turn. -/
def direction (x : Track) : EReal := turn (Ideal.atan2 (x 19 0) (x 19 1))

/-- The sum of all coordinates: zero marks a neighbour that is not there. -/
def total (x : Track) : EReal := ∑ t, ∑ d, x t d

/-- The sector of the neighbour: its direction over the width, rounded toward zero; `-1` when it is not
    there. -/
def sector (x : Track) : BitVec 32 :=
  if total x ≠ 0 then Ideal.fptosi 32 (Ideal.div (direction x) width) else 4294967295#32

/-- `1` when the number `s` is `k`, else `0`. -/
def hit (s k : BitVec 32) : EReal := if s = k then 1 else 0

/-- The average of `f` over those neighbours whose sector is `k`. -/
def mean (f : Track → EReal) (k : BitVec 32) (X : Fin 128 → Track) : EReal :=
  Ideal.div (∑ n, f (X n) * hit (sector (X n)) k) ((∑ n, hit (sector (X n)) k) + eps)

/-- A dense layer of 64 outputs on the positive parts of 64 inputs, followed by `tanh`. -/
def layer (h : Fin 64 → EReal) (W : Fin 64 → Fin 64 → EReal) (b : Fin 64 → EReal) (j : Fin 64) : EReal :=
  Ideal.tanh ((∑ i, max (h i) 0 * W i j) + b j)

/-- The 64 features made of one average `v`. -/
def features1 (v : EReal) (W1 b1 : Fin 64 → EReal) (W2 : Fin 64 → Fin 64 → EReal) (b2 : Fin 64 → EReal) :
    Fin 64 → EReal :=
  layer (fun i => v * W1 i + b1 i) W2 b2

/-- The 64 features made of two averages `v` and `w`. -/
def features2 (v w : EReal) (W1 : Fin 2 → Fin 64 → EReal) (b1 : Fin 64 → EReal) (W2 : Fin 64 → Fin 64 → EReal)
    (b2 : Fin 64 → EReal) : Fin 64 → EReal :=
  layer (fun i => v * W1 0 i + w * W1 1 i + b1 i) W2 b2

/-- One entry of the output of one ego agent: row `p` is a sector (rows from 8 on are zero), column `c` a
    feature (the first 64 from the speeds, the last 64 from the distances and directions). -/
def entry (X : Fin 128 → Track) (Wv1 bv1 : Fin 64 → EReal) (Wv2 : Fin 64 → Fin 64 → EReal) (bv2 : Fin 64 → EReal)
    (Wd1 : Fin 2 → Fin 64 → EReal) (bd1 : Fin 64 → EReal) (Wd2 : Fin 64 → Fin 64 → EReal) (bd2 : Fin 64 → EReal)
    (p : Fin 20) (c : Fin 128) : EReal :=
  if p.val < 8 then
    if h : c.val < 64 then
      features1 (mean speed (BitVec.ofNat 32 p) X) Wv1 bv1 Wv2 bv2 ⟨c, h⟩
    else
      features2 (mean dist (BitVec.ofNat 32 p) X) (mean direction (BitVec.ofNat 32 p) X) Wd1 bd1 Wd2 bd2
        ⟨c - 64, by omega⟩
  else 0

end Cert.Own

end

end
-- ==== Proof.Track.lean ====
/- What the kernel's body computes of one neighbour: the product with the constant selection matrix picks
   the sum, the last frame and the displacement out of the 40 coordinates, and from these come the three
   numbers and the sector of the track. -/
module

public import Idealize.ShloMosaic.Lib.WordCmp
public import proofs.«01_k».proof.Proof.Spec
public import proofs.«01_k».proof.Proof.Gen.KernelIdeal.Skeleton

@[expose] public section

set_option maxRecDepth 16384

noncomputable section

namespace Cert.KernelIdeal.Own

open Idealize.ShloMosaic Idealize.ShloMosaic.TcCoe Idealize.SL.Sem
open Cert.KernelIdeal Cert.KernelIdeal.Gen Cert.Own

/-! ## Choices on an integer comparison -/

/-- A choice on the equality of two words is a case distinction. -/
theorem select_eq_words {α : Type} (a b : BitVec 32) (x y : α) :
    Scalar.select (IntOp.cmpi .eq a b) x y = if a = b then x else y := by
  rw [WordCmp.cmpi_eq_eq, WordCmp.select_ofBool]; simp

/-- A choice on the equality of two small numbers spelt as words is a choice on the numbers. -/
theorem select_eq_nat {α : Type} (a b : ℕ) (ha : a < 2 ^ 32) (hb : b < 2 ^ 32) (x y : α) :
    Scalar.select (IntOp.cmpi .eq (BitVec.ofNat 32 a) (BitVec.ofNat 32 b)) x y = if a = b then x else y := by
  rw [select_eq_words]
  refine if_congr ⟨fun h => ?_, fun h => by rw [h]⟩ rfl rfl
  have := congrArg BitVec.toNat h
  rwa [BitVec.toNat_ofNat, BitVec.toNat_ofNat, Nat.mod_eq_of_lt ha, Nat.mod_eq_of_lt hb] at this

/-! ## Sums over the coordinates against a row of the selection matrix -/

/-- A row with a single one picks that coordinate. -/
theorem sum_one (j : Fin 40) (f : Fin 40 → EReal) :
    ∑ k : Fin 40, (if k.val = j.val then (1 : EReal) else 0) * f k = f j := by
  rw [Finset.sum_eq_single j (fun k _ hk => by rw [if_neg (fun h => hk (Fin.ext h)), zero_mul])
    (fun h => absurd (Finset.mem_univ j) h), if_pos rfl, one_mul]

/-- A row with a one and a minus one picks the difference of two coordinates. -/
theorem sum_diff (i j : Fin 40) (hij : i ≠ j) (f : Fin 40 → EReal) :
    ∑ k : Fin 40, ((if k.val = i.val then (1 : EReal) else 0) - (if k.val = j.val then (1 : EReal) else 0)) * f k
      = f i - f j := by
  have h : ∀ k : Fin 40,
      ((if k.val = i.val then (1 : EReal) else 0) - (if k.val = j.val then (1 : EReal) else 0)) * f k
        = (if k.val = i.val then (1 : EReal) else 0) * f k + (if k.val = j.val then (1 : EReal) else 0) * (- f k) := by
    intro k
    by_cases hi : k.val = i.val
    · have hj : ¬ k.val = j.val := fun h => hij (Fin.ext (hi.symm.trans h))
      simp [if_pos hi, if_neg hj]
    · by_cases hj : k.val = j.val
      · simp [if_neg hi, if_pos hj, neg_mul]
      · simp [if_neg hi, if_neg hj]
  rw [Finset.sum_congr rfl fun k _ => h k, Finset.sum_add_distrib, sum_one, sum_one, sub_eq_add_neg]

/-! ## The product with the selection matrix -/

/-- The product with the selection matrix, over the block `x` of coordinates (the last value is the constant
    zero of the body). -/
abbrev picked (x : Vec Ideal S256x128x40 .f32) : FVec Ideal S8x256x128 .f32 :=
  k0_pay9 (k0_pay2 x) (iota .tc S8x40 32 [0] iota_S8x40_d0_w32) k0_pay3 k0_pay4 k0_pay5 k0_pay6 k0_pay7 k0_pay8
    (0 : EReal)

/-- The selection matrix at row `a` and column `k`. -/
def coef (a : Fin 8) (k : Fin 40) : EReal :=
  (if a.val = 0 then 1 else 0)
    + (if a.val = 1 then (if k.val = 38 then 1 else 0) else 0)
    + (if a.val = 2 then (if k.val = 39 then 1 else 0) else 0)
    + (if a.val = 3 then (if k.val = 38 then 1 else 0) - (if k.val = 0 then 1 else 0) else 0)
    + (if a.val = 4 then (if k.val = 39 then 1 else 0) - (if k.val = 1 then 1 else 0) else 0)

/-- The product at a neighbour is the sum of its coordinates, weighted by the matrix row. -/
theorem picked_at (x : Vec Ideal S256x128x40 .f32) (a : Fin 8) (g : Fin 256) (n : Fin 128) :
    picked x (ix3 a g n) = ∑ k : Fin 40, coef a k * x (ix3 g n k) := by
  pointwise [picked, k0_pay9, k0_pay2, k0_pay3, k0_pay4, k0_pay5, k0_pay6, k0_pay7, k0_pay8]
  refine Finset.sum_congr rfl fun k _ => congrArg (· * x (ix3 g n k)) ?_
  simp (disch := omega) only [select_eq_nat]
  rfl

/-- The track of neighbour `n` of agent `g` in a block. -/
def track (x : Vec Ideal S256x128x40 .f32) (g : Fin 256) (n : Fin 128) : Track :=
  fun t d => x (ix3 g n ⟨2 * t + d, by omega⟩)

section Rows
variable (x : Vec Ideal S256x128x40 .f32) (g : Fin 256) (n : Fin 128)

/-- Row 0 is the sum of all coordinates. -/
theorem picked_total : picked x (ix3 0 g n) = total (track x g n) := by
  rw [picked_at]
  have h : ∀ k : Fin 40, coef 0 k * x (ix3 g n k) = x (ix3 g n k) := fun k => by simp [coef]
  rw [Finset.sum_congr rfl fun k _ => h k]
  unfold total track
  rw [show (∑ k : Fin 40, x (ix3 g n k)) = _ from Fin.sum_univ_tiles 20 2 rfl fun k : Fin 40 => x (ix3 g n k)]
  refine Finset.sum_congr rfl fun t _ => Finset.sum_congr rfl fun d _ => ?_
  simp only [mul_comm]

/-- Row 1 is the first coordinate of the last frame. -/
theorem picked_x : picked x (ix3 1 g n) = track x g n 19 0 := by
  rw [picked_at]
  refine (Finset.sum_congr rfl fun k _ => ?_).trans (sum_one 38 fun k => x (ix3 g n k))
  simp [coef]

/-- Row 2 is the second coordinate of the last frame. -/
theorem picked_y : picked x (ix3 2 g n) = track x g n 19 1 := by
  rw [picked_at]
  refine (Finset.sum_congr rfl fun k _ => ?_).trans (sum_one 39 fun k => x (ix3 g n k))
  simp [coef]

/-- Row 3 is the displacement along the first coordinate. -/
theorem picked_dx : picked x (ix3 3 g n) = track x g n 19 0 - track x g n 0 0 := by
  rw [picked_at]
  refine (Finset.sum_congr rfl fun k _ => ?_).trans (sum_diff 38 0 (by decide) fun k => x (ix3 g n k))
  simp [coef]

/-- Row 4 is the displacement along the second coordinate. -/
theorem picked_dy : picked x (ix3 4 g n) = track x g n 19 1 - track x g n 0 1 := by
  rw [picked_at]
  refine (Finset.sum_congr rfl fun k _ => ?_).trans (sum_diff 39 1 (by decide) fun k => x (ix3 g n k))
  simp [coef]

/-! ## The three numbers and the sector -/

/-- The payloads of the body that read the product, at the selection matrix the body builds. -/
abbrev speeds (x : Vec Ideal S256x128x40 .f32) : FVec Ideal S256x128 .f32 :=
  k0_pay12 (k0_pay2 x) (iota .tc S8x40 32 [0] iota_S8x40_d0_w32) k0_pay3 k0_pay4 k0_pay5 k0_pay6 k0_pay7 k0_pay8
    (0 : EReal)
@[inherit_doc speeds] abbrev dists (x : Vec Ideal S256x128x40 .f32) : FVec Ideal S256x128 .f32 :=
  k0_pay13 (k0_pay2 x) (iota .tc S8x40 32 [0] iota_S8x40_d0_w32) k0_pay3 k0_pay4 k0_pay5 k0_pay6 k0_pay7 k0_pay8
    (0 : EReal)
@[inherit_doc speeds] abbrev directions (x : Vec Ideal S256x128x40 .f32) : FVec Ideal S256x128 .f32 :=
  k0_pay14 (k0_pay2 x) (iota .tc S8x40 32 [0] iota_S8x40_d0_w32) k0_pay3 k0_pay4 k0_pay5 k0_pay6 k0_pay7 k0_pay8
    (0 : EReal)
@[inherit_doc speeds] abbrev sectors (x : Vec Ideal S256x128x40 .f32) : IVec S256x128 32 :=
  k0_pay15 (k0_pay2 x) (iota .tc S8x40 32 [0] iota_S8x40_d0_w32) (k0_pay3 (F := Ideal)) k0_pay4 k0_pay5 k0_pay6 k0_pay7 k0_pay8
    (0 : EReal)

/-- The first payload is the speed of the track. -/
theorem speeds_at : speeds x (ix2 g n) = speed (track x g n) := by
  pointwise [speeds, k0_pay12]
  show Ideal.sqrt (picked x (ix3 3 g n) * picked x (ix3 3 g n) + picked x (ix3 4 g n) * picked x (ix3 4 g n)) = _
  rw [picked_dx, picked_dy]; rfl

/-- The second payload is the distance of the track. -/
theorem dists_at : dists x (ix2 g n) = dist (track x g n) := by
  pointwise [dists, k0_pay13, k0_pay10, k0_pay11]
  show Ideal.sqrt (picked x (ix3 1 g n) * picked x (ix3 1 g n) + picked x (ix3 2 g n) * picked x (ix3 2 g n)) = _
  rw [picked_x, picked_y]; rfl

/-- The third payload is the direction of the track. -/
theorem directions_at : directions x (ix2 g n) = direction (track x g n) := by
  pointwise [directions, k0_pay14, k0_pay10, k0_pay11]
  show turn (Ideal.atan2 (picked x (ix3 1 g n)) (picked x (ix3 2 g n))) = _
  rw [picked_x, picked_y]; rfl

/-- The fourth payload is the sector of the track. -/
theorem sectors_at : sectors x (ix2 g n) = sector (track x g n) := by
  pointwise [sectors, k0_pay15]
  show (if picked x (ix3 0 g n) ≠ 0 then Ideal.fptosi 32 (Ideal.div (directions x (ix2 g n)) width) else 4294967295#32) = _
  rw [picked_total, directions_at]; rfl

end Rows

end Cert.KernelIdeal.Own

end

end
-- ==== Proof.Average.lean ====
/- What the kernel's body computes per sector: the averages of a value of the neighbours over the
   neighbours in the sector, for all eight sectors side by side. The body's eight copies of this
   computation are one function of the sector's number. -/
module

public import proofs.«01_k».proof.Proof.Track

@[expose] public section

set_option maxRecDepth 16384

noncomputable section

namespace Cert.KernelIdeal.Own

open Idealize.ShloMosaic Idealize.ShloMosaic.TcCoe Idealize.SL.Sem
open Cert.KernelIdeal Cert.KernelIdeal.Gen Cert.Own

/-- Which neighbours have sector `k`, as ones and zeros. -/
def hits (s : IVec S256x128 32) (k : BitVec 32) : FVec Ideal S256x128 .f32 :=
  sitofp .f32 (extui 32 (cmpi .eq s (broadcast S256x128 k)) natLt_1_32)

/-- The sum over the neighbours of each agent, as a column. -/
def column (v : FVec Ideal S256x128 .f32) : FVec Ideal S256x1 .f32 :=
  shapeCast S256x1 (multiReduction .add [1] S256 v 0x00000000#32 reduces_S256x128_S256 (.inl rfl) rfl) shapeCasts_S256_S256x1

/-- The averages of `f` over the neighbours with sector `k`. -/
def averages (f : FVec Ideal S256x128 .f32) (s : IVec S256x128 32) (k : BitVec 32) : FVec Ideal S256x1 .f32 :=
  divf (column (mulf f (hits s k))) (addf (column (hits s k)) (broadcast S256x1 (Scalar.ofBits .f32 0x38D1B717#32)))

/-- The averages of the eight sectors side by side. -/
def stack (f : FVec Ideal S256x128 .f32) (s : IVec S256x128 32) : FVec Ideal S256x8 .f32 :=
  concatenate S256x8 1 [⟨S256x1, averages f s 0#32⟩, ⟨S256x1, averages f s 1#32⟩, ⟨S256x1, averages f s 2#32⟩,
    ⟨S256x1, averages f s 3#32⟩, ⟨S256x1, averages f s 4#32⟩, ⟨S256x1, averages f s 5#32⟩,
    ⟨S256x1, averages f s 6#32⟩, ⟨S256x1, averages f s 7#32⟩]
    concatenates_S256x1_S256x1_S256x1_S256x1_S256x1_S256x1_S256x1_S256x1_S256x8_d1

/-- A one or zero made of an equality of words. -/
theorem hit_eq (a b : BitVec 32) :
    FloatOps.sitofp (F := Ideal) .f32 ((IntOp.cmpi .eq a b).setWidth 32) = hit a b := by
  rw [WordCmp.cmpi_eq_eq, hit]
  by_cases h : a = b
  · rw [if_pos h, decide_eq_true h]; exact (by norm_num : (((1 : ℤ) : ℝ) : EReal) = 1)
  · rw [if_neg h, decide_eq_false h]; exact (by norm_num : (((0 : ℤ) : ℝ) : EReal) = 0)

/-- The averages at an agent. -/
theorem averages_at (f : FVec Ideal S256x128 .f32) (s : IVec S256x128 32) (k : BitVec 32) (g : Fin 256) :
    averages f s k (ix2 g 0)
      = Ideal.div (∑ n : Fin 128, f (ix2 g n) * hit (s (ix2 g n)) k) ((∑ n : Fin 128, hit (s (ix2 g n)) k) + eps) := by
  pointwise [averages, column, hits]
  simp only [hit_eq]
  rfl

/-- The averages at an agent, once the averaged value and the sector are known for each of its neighbours. -/
theorem averages_mean (f : FVec Ideal S256x128 .f32) (s : IVec S256x128 32) (k : BitVec 32) (g : Fin 256)
    (F : Track → EReal) (X : Fin 128 → Track) (hf : ∀ n : Fin 128, f (ix2 g n) = F (X n))
    (hs : ∀ n : Fin 128, s (ix2 g n) = sector (X n)) : averages f s k (ix2 g 0) = mean F k X := by
  rw [averages_at, mean]
  simp only [hf, hs]

/-- The stack at an agent and a sector. -/
theorem stack_at (f : FVec Ideal S256x128 .f32) (s : IVec S256x128 32) (g : Fin 256) (p : Fin 8) :
    stack f s (ix2 g p) = averages f s (BitVec.ofNat 32 p) (ix2 g 0) := by
  pointwise [stack]
  fin_vals p with hp
  all_goals simp only [hp, Nat.reduceSub, Nat.reduceLT, ↓reduceDIte]
  all_goals rfl

/-- The stack at an agent and a sector is the average of the sector. -/
theorem stack_mean (f : FVec Ideal S256x128 .f32) (s : IVec S256x128 32) (g : Fin 256) (p : Fin 8)
    (F : Track → EReal) (X : Fin 128 → Track) (hf : ∀ n : Fin 128, f (ix2 g n) = F (X n))
    (hs : ∀ n : Fin 128, s (ix2 g n) = sector (X n)) : stack f s (ix2 g p) = mean F (BitVec.ofNat 32 p) X :=
  (stack_at f s g p).trans (averages_mean f s _ g F X hf hs)

end Cert.KernelIdeal.Own

end

end
-- ==== Proof.Block.lean ====
/- What the kernel's body stores: over one block of 256 agents, the entries of the output. -/
module

public import Idealize.ShloMosaic.Lib.Pipeline.ValueKit
public import proofs.«01_k».proof.Proof.Average
public import proofs.«01_k».proof.Proof.Gen.KernelIdeal.Frame

@[expose] public section

set_option maxRecDepth 16384

noncomputable section

namespace Cert.KernelIdeal.Own

open Idealize.ShloMosaic Idealize.ShloMosaic.TcCoe Idealize.SL.Sem
open Cert.KernelIdeal Cert.KernelIdeal.Gen Cert.Own

/-- The 64 features the body makes of one column of averages `v`. -/
def dense1 (v : FVec Ideal S256x8 .f32) (W1 : Vec Ideal S1x64 .f32) (b1 : Vec Ideal S64 .f32)
    (W2 : Vec Ideal S64x64 .f32) (b2 : Vec Ideal S64 .f32) : FVec Ideal S256x8x64 .f32 :=
  shapeCast S256x8x64 (tanh (addf (matmul (φ₂ := .f32) dot_S2048x64_S64x64_S2048x64_1_0_0_1_n_n none
    (shapeCast S2048x64 (maximumf (addf (mulf (broadcastTo S256x8x64 (shapeCast S256x8x1 v shapeCasts_S256x8_S256x8x1)
        broadcasts_S256x8x1_S256x8x64)
      (broadcastTo S256x8x64 (shapeCast S1x1x64 (shapeCast S64 W1 shapeCasts_S1x64_S64) shapeCasts_S64_S1x1x64)
        broadcasts_S1x1x64_S256x8x64))
      (broadcastTo S256x8x64 (shapeCast S1x1x64 b1 shapeCasts_S64_S1x1x64) broadcasts_S1x1x64_S256x8x64))
      (broadcast S256x8x64 (Scalar.ofBits .f32 0x00000000#32))) shapeCasts_S256x8x64_S2048x64)
    W2 (constant S2048x64 .f32 0x00000000#32))
    (broadcastTo S2048x64 (shapeCast S1x64 b2 shapeCasts_S64_S1x64) broadcasts_S1x64_S2048x64)))
    shapeCasts_S2048x64_S256x8x64

/-- The features at an agent and a sector. -/
theorem dense1_at (v : FVec Ideal S256x8 .f32) (W1 : Vec Ideal S1x64 .f32) (b1 : Vec Ideal S64 .f32)
    (W2 : Vec Ideal S64x64 .f32) (b2 : Vec Ideal S64 .f32) (g : Fin 256) (p : Fin 8) (j : Fin 64) :
    dense1 v W1 b1 W2 b2 (ix3 g p j)
      = features1 (v (ix2 g p)) (fun i => W1 (ix2 0 i)) (fun i => b1 (ix1 i)) (fun i j => W2 (ix2 i j)) (fun j => b2 (ix1 j)) j := by
  pointwise [dense1]
  rfl

/-- What the body stores at an agent, a row and a column, over the averages and the first 64 features. -/
theorem stored_at (d a : FVec Ideal S256x8 .f32) (f : FVec Ideal S256x8x64 .f32) (W1 : Vec Ideal S2x64 .f32)
    (b1 : Vec Ideal S64 .f32) (W2 : Vec Ideal S64x64 .f32) (b2 : Vec Ideal S64 .f32) (g : Fin 256) (p : Fin 20) (c : Fin 128) :
    k0_pay1 d a f W1 b1 W2 b2 (ix3 g p c)
      = if hp : p.val < 8 then
          if hc : c.val < 64 then f (ix3 g ⟨p, hp⟩ ⟨c, hc⟩)
          else features2 (d (ix2 g ⟨p, hp⟩)) (a (ix2 g ⟨p, hp⟩)) (fun e i => W1 (ix2 e i)) (fun i => b1 (ix1 i))
            (fun i j => W2 (ix2 i j)) (fun j => b2 (ix1 j)) ⟨c - 64, by omega⟩
        else 0 := by
  pointwise [k0_pay1]
  by_cases hp : p.val < 8
  · have h1 : (g.val * 8 + p.val) / 8 = g.val := by omega
    have h2 : (g.val * 8 + p.val) % 8 = p.val := by omega
    simp only [h1, h2]
    rfl
  · rw [dif_neg hp, dif_neg hp]

/-! ## The body's copies of one computation -/

section Copies
variable (f : FVec Ideal S256x128 .f32) (s : IVec S256x128 32)

/-- The body's column block of averaged distances is the stack of the eight sectors' averages. -/
theorem stack_dists :
    k0_pay57 f s (k0_pay20 f s k0_pay16) (k0_pay25 f s) (k0_pay32 f (k0_pay27 s) (k0_pay28 s) k0_pay29) (k0_pay37 f s)
      (k0_pay43 (k0_pay40 s) (k0_pay42 f s)) (k0_pay48 f s) (k0_pay53 f s) = stack f s := rfl

/-- The body's column block of averaged directions is the stack of the eight sectors' averages. -/
theorem stack_directions :
    k0_pay58 f s (k0_pay21 f s k0_pay16) (k0_pay26 f s) (k0_pay33 f (k0_pay27 s) (k0_pay28 s) k0_pay29) (k0_pay38 f s)
      (k0_pay44 f (k0_pay39 s) (k0_pay40 s)) (k0_pay49 f s) (k0_pay54 f s) = stack f s := rfl

/-- The body's first 64 features are made of the stack of the eight sectors' averaged speeds. -/
theorem dense_speeds (W1 : Vec Ideal S1x64 .f32) (b1 : Vec Ideal S64 .f32) (W2 : Vec Ideal S64x64 .f32) (b2 : Vec Ideal S64 .f32) :
    k0_pay59 f s (k0_pay19 f s k0_pay16) (k0_pay24 f s) (k0_pay31 f (k0_pay27 s) (k0_pay28 s) k0_pay29) (k0_pay36 f s)
      (k0_pay41 f s) (k0_pay47 f s) (k0_pay52 f s) W1 b1 W2 b2 = dense1 (stack f s) W1 b1 W2 b2 := rfl

end Copies

/-! ## The block the body leaves -/

section Out
variable (x : Vec Ideal S256x128x40 .f32) (W1 : Vec Ideal S1x64 .f32) (b1 : Vec Ideal S64 .f32)
  (W2 : Vec Ideal S64x64 .f32) (b2 : Vec Ideal S64 .f32) (V1 : Vec Ideal S2x64 .f32) (c1 : Vec Ideal S64 .f32)
  (V2 : Vec Ideal S64x64 .f32) (c2 : Vec Ideal S64 .f32)

/-- The load of the whole block of coordinates is the block. -/
theorem coords_eq : k0_pay61 x W1 b1 W2 b2 V1 c1 V2 c2 = k0_pay2 x := by
  unfold k0_pay61
  frame_out

/-- The body's speeds are read off the block of coordinates. -/
theorem speeds_eq : k0_pay68 x W1 b1 W2 b2 V1 c1 V2 c2 = speeds x := by
  rw [k0_pay68, coords_eq, show (Scalar.ofBits .f32 0x00000000#32 : Ideal .f32) = (0 : EReal) from Ideal.ofBits_zero_f32]; rfl

/-- The body's distances are read off the block of coordinates. -/
theorem dists_eq : k0_pay69 x W1 b1 W2 b2 V1 c1 V2 c2 = dists x := by
  rw [k0_pay69, coords_eq, show (Scalar.ofBits .f32 0x00000000#32 : Ideal .f32) = (0 : EReal) from Ideal.ofBits_zero_f32]; rfl

/-- The body's directions are read off the block of coordinates. -/
theorem directions_eq : k0_pay70 x W1 b1 W2 b2 V1 c1 V2 c2 = directions x := by
  rw [k0_pay70, coords_eq, show (Scalar.ofBits .f32 0x00000000#32 : Ideal .f32) = (0 : EReal) from Ideal.ofBits_zero_f32]; rfl

/-- The body's sectors are read off the block of coordinates. -/
theorem sectors_eq : k0_pay71 x W1 b1 W2 b2 V1 c1 V2 c2 = sectors x := by
  rw [k0_pay71, coords_eq, show (Scalar.ofBits .f32 0x00000000#32 : Ideal .f32) = (0 : EReal) from Ideal.ofBits_zero_f32]; rfl

/-- What the body leaves in the output buffer, over the blocks it loads: the stored value of `stored_at`, over the
    stacked averages of the block's speeds, distances and directions. -/
theorem out_eq :
    out0_9 x W1 b1 W2 b2 V1 c1 V2 c2
      = k0_pay1 (stack (dists x) (sectors x)) (stack (directions x) (sectors x))
          (dense1 (stack (speeds x) (sectors x)) W1 b1 W2 b2) V1 c1 V2 c2 := by
  frame_out
  unfold k0_pay72 k0_pay73 k0_pay74 k0_pay75 k0_pay76
  rw [speeds_eq, dists_eq, directions_eq, sectors_eq, stack_dists, stack_directions, dense_speeds]

/-- The body leaves, for each agent of the block, the entries of the output. -/
theorem out_at (g : Fin 256) (p : Fin 20) (c : Fin 128) :
    out0_9 x W1 b1 W2 b2 V1 c1 V2 c2 (ix3 g p c)
      = entry (track x g) (fun i => W1 (ix2 0 i)) (fun i => b1 (ix1 i)) (fun i j => W2 (ix2 i j)) (fun j => b2 (ix1 j))
          (fun e i => V1 (ix2 e i)) (fun i => c1 (ix1 i)) (fun i j => V2 (ix2 i j)) (fun j => c2 (ix1 j)) p c := by
  have hs := sectors_at x g
  rw [out_eq, stored_at, entry]
  by_cases hp : p.val < 8
  · rw [dif_pos hp, if_pos hp]
    by_cases hc : c.val < 64
    · rw [dif_pos hc, dif_pos hc, dense1_at, stack_mean _ _ g ⟨p, hp⟩ speed (track x g) (speeds_at x g) hs]
    · rw [dif_neg hc, dif_neg hc, stack_mean _ _ g ⟨p, hp⟩ dist (track x g) (dists_at x g) hs,
        stack_mean _ _ g ⟨p, hp⟩ direction (track x g) (directions_at x g) hs]
  · rw [dif_neg hp, if_neg hp]

end Out

end Cert.KernelIdeal.Own

end

end
-- ==== Proof.Array.lean ====
/- What the output array holds after the kernel's run: block `t` of the grid holds the entries of agents
   `256 t` to `256 t + 255`, and the sixteen blocks cover the array. -/
module

public import proofs.«01_k».proof.Proof.Block
public import proofs.«01_k».proof.Proof.Gen.KernelIdeal.Value

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Own

/-- The output as one function of the argument arrays: the neighbours' tracks and the eight weight arrays. -/
def result (X : FVec Ideal S4096x128x20x2 .f32) (W1 : FVec Ideal S1x64 .f32) (b1 : FVec Ideal S64 .f32)
    (W2 : FVec Ideal S64x64 .f32) (b2 : FVec Ideal S64 .f32) (V1 : FVec Ideal S2x64 .f32) (c1 : FVec Ideal S64 .f32)
    (V2 : FVec Ideal S64x64 .f32) (c2 : FVec Ideal S64 .f32) : FVec Ideal S4096x20x128 .f32 := fun i =>
  entry (fun n t d => X (ix4 (i 0) n t d)) (fun i => W1 (ix2 0 i)) (fun i => b1 (ix1 i)) (fun i j => W2 (ix2 i j))
    (fun j => b2 (ix1 j)) (fun e i => V1 (ix2 e i)) (fun i => c1 (ix1 i)) (fun i j => V2 (ix2 i j)) (fun j => c2 (ix1 j))
    (i 1) (i 2)

variable (m : (ℓ : Loc nD τ sig) → Buf (Elt Ideal) ℓ)

/-- Where the blocks of point `t` sit: the agents' blocks at block row `t`, the weights whole. -/
theorem idx : ∀ t : Fin cfg0.N, win0_0.index t = ![t.val, 0, 0] ∧ win0_1.index t = ![0, 0] ∧ win0_2.index t = ![0]
    ∧ win0_3.index t = ![0, 0] ∧ win0_4.index t = ![0] ∧ win0_5.index t = ![0, 0] ∧ win0_6.index t = ![0]
    ∧ win0_7.index t = ![0, 0] ∧ win0_8.index t = ![0] ∧ win0_9.index t = ![t.val, 0, 0] :=
  (by decide +kernel : ∀ t : Fin grid0.N, _)

/-- Every point's block of a weight array is the array. -/
theorem weights (c : Dev nD) (t : Fin cfg0.N) :
    iblk m c 1 t = m ((c : Thread nD τ).loc main_arg2) ∧ iblk m c 2 t = m ((c : Thread nD τ).loc main_arg3)
    ∧ iblk m c 3 t = m ((c : Thread nD τ).loc main_arg4) ∧ iblk m c 4 t = m ((c : Thread nD τ).loc main_arg5)
    ∧ iblk m c 5 t = m ((c : Thread nD τ).loc main_arg6) ∧ iblk m c 6 t = m ((c : Thread nD τ).loc main_arg7)
    ∧ iblk m c 7 t = m ((c : Thread nD τ).loc main_arg8) ∧ iblk m c 8 t = m ((c : Thread nD τ).loc main_arg9) := by
  refine ⟨?_, ?_, ?_, ?_, ?_, ?_, ?_, ?_⟩
  all_goals blk_ext! [iblk, V, idx t]

/-- The block of coordinates of point `t` holds the tracks of agents `256 t` and on. -/
theorem track_eq (c : Dev nD) (t : Fin cfg0.N) (g : Fin 256) (b : Fin 4096) (hb : b.val = 256 * t.val + g.val) :
    track (iblk m c 0 t) g = fun n u d => m ((c : Thread nD τ).loc main_arg1) (ix4 b n u d) := by
  funext n u d
  have h : iblk m c 0 t (ix3 g n ⟨2 * u + d, by omega⟩) = V m c main_v0 (ix3 b n ⟨2 * u + d, by omega⟩) := by
    blk_ext [iblk, idx t]
  refine h.trans ?_
  entry_read
  pointwise

/-- The array after the run is the array of the output's entries. -/
theorem final (c : Dev nD) : (dats m 0 c).arrAt 9 (cfgs 0).N
    = result (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (dats m 0 c).arrAt_eq_of_covers 9 _ (by decide +kernel) fun t _ y => ?_
  blk_simp
  rw [after0_9]
  refine (congrArg _ (eq_ix3 y)).trans ((out_at _ _ _ _ _ _ _ _ _ (y 0) (y 1) (y 2)).trans ?_)
  unfold result
  have e0 : ((win0_9.blk t).view.emb y 0).val = 256 * t.val + (y 0).val := by
    blk_simp [idx t]; omega
  have e1 : (win0_9.blk t).view.emb y 1 = y 1 := by
    refine Fin.ext ?_
    blk_simp [idx t]
  have e2 : (win0_9.blk t).view.emb y 2 = y 2 := by
    refine Fin.ext ?_
    blk_simp [idx t]
  obtain ⟨h1, h2, h3, h4, h5, h6, h7, h8⟩ := weights m c t
  rw [e1, e2, h1, h2, h3, h4, h5, h6, h7, h8, track_eq m c t (y 0) _ e0]

end Cert.KernelIdeal.Own

end

end
-- ==== Proof.Angle.lean ====
/- Two scalar facts that let the reference's spelling of a track's direction and sector meet the plain one.

   The direction: the reference takes the remainder of the angle by one turn and corrects its sign; the
   angle is in `(-π, π]`, less than one turn, so the remainder is the angle itself and only the correction
   of a negative angle is left. The sector: the reference multiplies by an integer mask that is 1 or 0. -/
module

public import proofs.«01_k».proof.Proof.Spec

@[expose] public section

noncomputable section

namespace Cert.Own

open Idealize.ShloMosaic

/-- The constant `twoPi` as a fraction. -/
theorem twoPi_eq : twoPi = ((13176795 / 2097152 : ℝ) : EReal) := by
  simp [twoPi, Ideal.ofBits, Ideal.ieee, -EReal.coe_mul]; norm_num

/-- `atan2` is the junk value, or a real number of magnitude at most `π`. -/
theorem atan2_cases (y x : EReal) : Ideal.atan2 y x = ⊥ ∨ ∃ r : ℝ, Ideal.atan2 y x = (r : EReal) ∧ |r| ≤ Real.pi := by
  induction y with
  | bot => exact .inl rfl
  | top => exact .inl rfl
  | coe y =>
    induction x with
    | bot => exact .inl rfl
    | top => exact .inl rfl
    | coe x =>
      refine .inr ⟨_, rfl, ?_⟩
      have hπ := Real.pi_pos
      have h1 := Real.arctan_lt_pi_div_two (y / x)
      have h2 := Real.neg_pi_div_two_lt_arctan (y / x)
      rw [abs_le]
      split_ifs with hx hx' hy hy hy'
      · constructor <;> linarith
      · have : Real.arctan (y / x) ≤ 0 := by
          rw [Real.arctan_le_zero]; exact div_nonpos_of_nonneg_of_nonpos hy hx'.le
        constructor <;> linarith
      · have : 0 ≤ Real.arctan (y / x) := by
          rw [Real.arctan_nonneg]; exact div_nonneg_of_nonpos (not_le.mp hy).le hx'.le
        constructor <;> linarith
      · constructor <;> linarith
      · constructor <;> linarith
      · constructor <;> linarith

/-- A real number of magnitude at most `π` is its own remainder by one turn. -/
theorem remf_twoPi {r : ℝ} (hr : |r| ≤ Real.pi) : Ideal.remf (r : EReal) twoPi = r := by
  have hπ : Real.pi < 13176795 / 2097152 := by have := Real.pi_le_four; norm_num; linarith
  have h0 : (0 : ℝ) < 13176795 / 2097152 := by norm_num
  rw [twoPi_eq, Ideal.remf_coe, if_neg h0.ne']
  have hlt : |r / (13176795 / 2097152)| < 1 := by
    rw [abs_div, abs_of_pos h0, div_lt_one h0]; linarith
  have ht : Ideal.truncInt (r / (13176795 / 2097152)) = 0 := by
    rw [abs_lt] at hlt
    unfold Ideal.truncInt
    split_ifs with h
    · rw [Int.floor_eq_iff]; constructor <;> push_cast <;> linarith
    · rw [Int.ceil_eq_iff]; constructor <;> push_cast <;> linarith
  rw [ht]; simp

/-- The remainder of a direction by one turn is the direction, at the junk value too. -/
theorem remf_atan2 (y x : EReal) : Ideal.remf (Ideal.atan2 y x) twoPi = Ideal.atan2 y x := by
  rcases atan2_cases y x with h | ⟨r, h, hr⟩
  · rw [h, Ideal.remf_bot]
  · rw [h, remf_twoPi hr]

/-- One turn is not negative. -/
theorem not_twoPi_neg : ¬ twoPi < 0 := by
  rw [twoPi_eq, not_lt]; exact_mod_cast (by norm_num : (0 : ℝ) ≤ 13176795 / 2097152)

/-- The sign correction of a remainder by one turn, where the remainder is the angle itself, is `turn`. -/
theorem wrap (a : EReal) :
    Scalar.select (IntOp.andi (IntOp.cmpi .ne (BitVec.ofBool (decide (a < 0))) (BitVec.ofBool (decide (twoPi < 0))))
        (BitVec.ofBool (decide (a ≠ 0)))) (a + twoPi) a = turn a := by
  rw [decide_eq_false not_twoPi_neg, turn]
  by_cases h : a < 0
  · rw [decide_eq_true h, decide_eq_true h.ne, if_pos h]; rfl
  · rw [decide_eq_false h, if_neg h]
    by_cases h0 : a ≠ 0
    · rw [decide_eq_true h0]; rfl
    · rw [decide_eq_false h0]; rfl

/-- A number that is not zero has sign of magnitude one, zero has sign zero. -/
theorem sign_abs (s : EReal) : Ideal.fptosi 32 (Ideal.sign (max s (-s))) = if s ≠ 0 then 1#32 else 0#32 := by
  have h1 : Ideal.fptosi 32 (1 : EReal) = 1#32 := by
    rw [← EReal.coe_one, Ideal.fptosi, Ideal.toIntClamped_coe]; norm_num
  have h0 : Ideal.fptosi 32 (0 : EReal) = 0#32 := by
    rw [← EReal.coe_zero, Ideal.fptosi, Ideal.toIntClamped_coe]; norm_num
  induction s with
  | bot => simp [h1]
  | top => simp [h1]
  | coe r =>
    have hm : max (r : EReal) (-(r : EReal)) = ((|r| : ℝ) : EReal) := by
      rw [← EReal.coe_neg, abs_eq_max_neg]; exact (EReal.coe_strictMono.monotone.map_max).symm
    rw [hm, Ideal.sign_coe]
    by_cases hr : r = 0
    · subst hr; simp [h0]
    · have : SignType.sign |r| = 1 := sign_pos (abs_pos.mpr hr)
      rw [this, if_pos (by exact_mod_cast hr)]; simpa using h1

/-- The integer selection by a mask that is one or zero. -/
theorem blend (a : BitVec 32) (s : EReal) :
    a * Ideal.fptosi 32 (Ideal.sign (max s (-s))) + 4294967295#32 * (1#32 - Ideal.fptosi 32 (Ideal.sign (max s (-s))))
      = if s ≠ 0 then a else 4294967295#32 := by
  rw [sign_abs]
  split_ifs <;> simp

end Cert.Own

end

end
-- ==== Proof.RefTrack.lean ====
/- What the reference computes of one neighbour: the three numbers and the sector of its track. -/
module

public import proofs.«01_k».proof.Proof.Angle
public import proofs.«01_k».proof.Proof.Gen.ReferenceIdeal.Run
public import Idealize.ShloMosaic.Lib.WordCmp

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value Cert.Own

variable (V0 : Valuation τ sig (Elt Ideal))

/-- The array of the neighbours' coordinates. -/
abbrev coords : FVec Ideal S4096x128x20x2 .f32 := V0 (Proc.devRef .tc main_arg1)

/-- The track of neighbour `n` of agent `b`. -/
def track (b : Fin 4096) (n : Fin 128) : Track := fun t d => coords V0 (ix4 b n t d)

section Stages
variable (b : Fin 4096) (n : Fin 128)

/-- The displacement from the first to the last frame. -/
theorem shift_at (d : Fin 2) :
    (res_main_v4 V0 : FVec Ideal S4096x128x2 .f32) (ix3 b n d) = track V0 b n 19 d - track V0 b n 0 d := by
  pointwise [res_main_v4]
  rfl

/-- The last frame. -/
theorem last_at (d : Fin 2) : (res_main_v6 V0 : FVec Ideal S4096x128x2 .f32) (ix3 b n d) = track V0 b n 19 d := by
  pointwise [res_main_v6]
  rfl

/-- The speeds. -/
theorem speed_at : (res_main_v7 V0 : FVec Ideal S4096x128 .f32) (ix2 b n) = speed (track V0 b n) := by
  pointwise [res_main_v7]
  rw [Fin.sum_univ_two]
  exact congrArg₂ (fun p q : EReal => Ideal.sqrt (p * p + q * q)) (shift_at V0 b n 0) (shift_at V0 b n 1)

/-- The distances. -/
theorem dist_at : (res_main_v8 V0 : FVec Ideal S4096x128 .f32) (ix2 b n) = dist (track V0 b n) := by
  pointwise [res_main_v8]
  rw [Fin.sum_univ_two]
  exact congrArg₂ (fun p q : EReal => Ideal.sqrt (p * p + q * q)) (last_at V0 b n 0) (last_at V0 b n 1)

/-- The directions. -/
theorem direction_at : (res_main_v14 V0 : FVec Ideal S4096x128 .f32) (ix2 b n) = direction (track V0 b n) := by
  pointwise [res_main_v14, res_main_call2_v2, res_main_call2_v0]
  have h : Ideal.remf (Ideal.atan2 ((res_main_v6 V0 : FVec Ideal S4096x128x2 .f32) (ix3 b n 0))
      ((res_main_v6 V0 : FVec Ideal S4096x128x2 .f32) (ix3 b n 1))) twoPi = Ideal.atan2 (track V0 b n 19 0) (track V0 b n 19 1) := by
    rw [last_at, last_at, remf_atan2]
  refine Eq.trans ?_ (wrap _)
  rw [← h]
  rfl

/-- The sum of all coordinates of a neighbour. -/
theorem total_at :
    Ideal.hostReduceAdd reducesTo_S4096x128x20x2_S4096x128_d3_2 (coords V0) 0 (ix2 b n) = total (track V0 b n) := by
  have h : Ideal.hostReduceAdd reducesTo_S4096x128x20x2_S4096x128_d3_2 (coords V0) 0 (ix2 b n)
      = Ideal.hostReduceAdd (by decide : S4096x128x20x2.ReducesTo [2, 3] S4096x128) (coords V0) 0 (ix2 b n) := rfl
  rw [h]
  pointwise
  rfl

/-- The sectors. -/
theorem sector_at : (res_main_v27 V0 : IVec S4096x128 32) (ix2 b n) = sector (track V0 b n) := by
  pointwise [res_main_v27, res_main_v21]
  refine (blend (Ideal.fptosi 32 (Ideal.div ((res_main_v14 V0 : FVec Ideal S4096x128 .f32) (ix2 b n)) width))
    (Ideal.hostReduceAdd reducesTo_S4096x128x20x2_S4096x128_d3_2 (coords V0) 0 (ix2 b n))).trans ?_
  rw [total_at, direction_at]
  rfl

end Stages

end Cert.ReferenceIdeal.Own

end

end
-- ==== Proof.RefAverage.lean ====
/- What the reference computes per sector: the averages of a value of the neighbours over the neighbours in
   the sector, for all eight sectors one below the other. The reference's eight copies of this computation
   are one function of the sector's number. -/
module

public import proofs.«01_k».proof.Proof.RefTrack

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value Cert.Own

/-- Which neighbours have sector `k`, as ones and zeros. -/
def hits (s : IVec S4096x128 32) (k : BitVec 32) : FVec Ideal S4096x128 .f32 :=
  uitofp .f32 (cmpi .eq s (broadcastInDim S4096x128 ![] bcast_S_S4096x128 (constantI S_ 32 k)))

/-- The sum over the neighbours of each agent. -/
def sums (v : FVec Ideal S4096x128 .f32) : FVec Ideal S4096 .f32 :=
  Host.reduceAdd v (constant S_ .f32 0x00000000#32) reducesTo_S4096x128_S4096_d1 h_S_

/-- The averages of `f` over the neighbours with sector `k`. -/
def averages (f : FVec Ideal S4096x128 .f32) (s : IVec S4096x128 32) (k : BitVec 32) : FVec Ideal S4096 .f32 :=
  Host.divf (sums (mulf f (hits s k)))
    (addf (sums (hits s k)) (broadcastInDim S4096 ![] bcast_S_S4096 (constant S_ .f32 0x38D1B717#32)))

/-- The averages of `f` for sector `k`, as a column. -/
def column (f : FVec Ideal S4096x128 .f32) (s : IVec S4096x128 32) (k : BitVec 32) : FVec Ideal S4096x1 .f32 :=
  broadcastInDim S4096x1 ![0] bcast_S4096_S4096x1_0 (averages f s k)

/-- The row of sector `k` where one value is averaged. -/
def row1 (f : FVec Ideal S4096x128 .f32) (s : IVec S4096x128 32) (k : BitVec 32) : FVec Ideal S4096x1x1 .f32 :=
  broadcastInDim S4096x1x1 ![0, 2] bcast_S4096x1_S4096x1x1_0_2 (column f s k)

/-- The row of sector `k` where two values are averaged. -/
def row2 (f g : FVec Ideal S4096x128 .f32) (s : IVec S4096x128 32) (k : BitVec 32) : FVec Ideal S4096x1x2 .f32 :=
  broadcastInDim S4096x1x2 ![0, 2] bcast_S4096x2_S4096x1x2_0_2
    (concatenate S4096x2 1 [⟨S4096x1, column f s k⟩, ⟨S4096x1, column g s k⟩] concatenates_S4096x1_S4096x1_S4096x2_d1)

/-- The eight sectors' rows where one value is averaged. -/
def stack1 (f : FVec Ideal S4096x128 .f32) (s : IVec S4096x128 32) : FVec Ideal S4096x8x1 .f32 :=
  concatenate S4096x8x1 1 [⟨S4096x1x1, row1 f s 0#32⟩, ⟨S4096x1x1, row1 f s 1#32⟩, ⟨S4096x1x1, row1 f s 2#32⟩,
    ⟨S4096x1x1, row1 f s 3#32⟩, ⟨S4096x1x1, row1 f s 4#32⟩, ⟨S4096x1x1, row1 f s 5#32⟩,
    ⟨S4096x1x1, row1 f s 6#32⟩, ⟨S4096x1x1, row1 f s 7#32⟩]
    concatenates_S4096x1x1_S4096x1x1_S4096x1x1_S4096x1x1_S4096x1x1_S4096x1x1_S4096x1x1_S4096x1x1_S4096x8x1_d1

/-- The eight sectors' rows where two values are averaged. -/
def stack2 (f g : FVec Ideal S4096x128 .f32) (s : IVec S4096x128 32) : FVec Ideal S4096x8x2 .f32 :=
  concatenate S4096x8x2 1 [⟨S4096x1x2, row2 f g s 0#32⟩, ⟨S4096x1x2, row2 f g s 1#32⟩, ⟨S4096x1x2, row2 f g s 2#32⟩,
    ⟨S4096x1x2, row2 f g s 3#32⟩, ⟨S4096x1x2, row2 f g s 4#32⟩, ⟨S4096x1x2, row2 f g s 5#32⟩,
    ⟨S4096x1x2, row2 f g s 6#32⟩, ⟨S4096x1x2, row2 f g s 7#32⟩]
    concatenates_S4096x1x2_S4096x1x2_S4096x1x2_S4096x1x2_S4096x1x2_S4096x1x2_S4096x1x2_S4096x1x2_S4096x8x2_d1

/-- A one or zero made of an equality of words. -/
theorem hit_eq (a b : BitVec 32) : FloatOps.uitofp (F := Ideal) .f32 (IntOp.cmpi .eq a b) = hit a b := by
  rw [WordCmp.cmpi_eq_eq, hit]
  by_cases h : a = b
  · rw [if_pos h, decide_eq_true h]; exact (by norm_num : (((1 : ℕ) : ℝ) : EReal) = 1)
  · rw [if_neg h, decide_eq_false h]; exact (by norm_num : (((0 : ℕ) : ℝ) : EReal) = 0)

/-- The averages at an agent. -/
theorem averages_at (f : FVec Ideal S4096x128 .f32) (s : IVec S4096x128 32) (k : BitVec 32) (b : Fin 4096) :
    averages f s k (ix1 b)
      = Ideal.div (∑ n : Fin 128, f (ix2 b n) * hit (s (ix2 b n)) k) ((∑ n : Fin 128, hit (s (ix2 b n)) k) + eps) := by
  pointwise [averages, sums, hits]
  simp only [hit_eq]
  rfl

/-- The averages at an agent, once the averaged value and the sector are known for each of its neighbours. -/
theorem averages_mean (f : FVec Ideal S4096x128 .f32) (s : IVec S4096x128 32) (k : BitVec 32) (b : Fin 4096)
    (F : Track → EReal) (X : Fin 128 → Track) (hf : ∀ n : Fin 128, f (ix2 b n) = F (X n))
    (hs : ∀ n : Fin 128, s (ix2 b n) = sector (X n)) : averages f s k (ix1 b) = mean F k X := by
  rw [averages_at, mean]
  simp only [hf, hs]

/-- The row of one average, at an agent. -/
theorem row1_at (f : FVec Ideal S4096x128 .f32) (s : IVec S4096x128 32) (k : BitVec 32) (b : Fin 4096) :
    row1 f s k (ix3 b 0 0) = averages f s k (ix1 b) := by
  pointwise [row1, column]

/-- The row of two averages holds the average of `f` first. -/
theorem row2_fst (f g : FVec Ideal S4096x128 .f32) (s : IVec S4096x128 32) (k : BitVec 32) (b : Fin 4096) :
    row2 f g s k (ix3 b 0 0) = averages f s k (ix1 b) := by
  pointwise [row2, column]

/-- The row of two averages holds the average of `g` second. -/
theorem row2_snd (f g : FVec Ideal S4096x128 .f32) (s : IVec S4096x128 32) (k : BitVec 32) (b : Fin 4096) :
    row2 f g s k (ix3 b 0 1) = averages g s k (ix1 b) := by
  pointwise [row2, column]

/-- The stack of single averages, at an agent and a sector. -/
theorem stack1_at (f : FVec Ideal S4096x128 .f32) (s : IVec S4096x128 32) (b : Fin 4096) (p : Fin 8) :
    stack1 f s (ix3 b p 0) = row1 f s (BitVec.ofNat 32 p) (ix3 b 0 0) := by
  pointwise [stack1]
  fin_vals p with hp
  all_goals simp only [hp, Nat.reduceSub, Nat.reduceLT, ↓reduceDIte]
  all_goals rfl

/-- The stack of pairs of averages, at an agent and a sector. -/
theorem stack2_at (f g : FVec Ideal S4096x128 .f32) (s : IVec S4096x128 32) (b : Fin 4096) (p : Fin 8) (e : Fin 2) :
    stack2 f g s (ix3 b p e) = row2 f g s (BitVec.ofNat 32 p) (ix3 b 0 e) := by
  pointwise [stack2]
  fin_vals p with hp
  all_goals simp only [hp, Nat.reduceSub, Nat.reduceLT, ↓reduceDIte]
  all_goals rfl

end Cert.ReferenceIdeal.Own

end

end
-- ==== Proof.RefValue.lean ====
/- What the reference returns, entry by entry. -/
module

public import proofs.«01_k».proof.Proof.RefAverage

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value Cert.Own

/-- A row of 64 numbers repeated for every agent and sector. -/
def bias (b : FVec Ideal S64 .f32) : FVec Ideal S4096x8x64 .f32 :=
  broadcastInDim S4096x8x64 ![0, 1, 2] bcast_S1x1x64_S4096x8x64_0_1_2 (broadcastInDim S1x1x64 ![2] bcast_S64_S1x1x64_2 b)

/-- The second dense layer over the values `h` of the first. -/
def second (h : FVec Ideal S4096x8x64 .f32) (W2 : FVec Ideal S64x64 .f32) (b2 : FVec Ideal S64 .f32) :
    FVec Ideal S4096x8x64 .f32 :=
  Host.tanh (addf (Host.dotGeneral (φ₂ := .f32) dot_S4096x8x64_S64x64_S4096x8x64_2_0_01_1_n_n none
    (maximumf h (broadcastInDim S4096x8x64 ![] bcast_S_S4096x8x64 (constant S_ .f32 0x00000000#32))) W2) (bias b2))

/-- The 64 features made of one average. -/
def dense1 (v : FVec Ideal S4096x8x1 .f32) (W1 : FVec Ideal S1x64 .f32) (b1 : FVec Ideal S64 .f32)
    (W2 : FVec Ideal S64x64 .f32) (b2 : FVec Ideal S64 .f32) : FVec Ideal S4096x8x64 .f32 :=
  second (addf (Host.dotGeneral (φ₂ := .f32) dot_S4096x8x1_S1x64_S4096x8x64_2_0_01_1_n_n none v W1) (bias b1)) W2 b2

/-- The 64 features made of two averages. -/
def dense2 (v : FVec Ideal S4096x8x2 .f32) (W1 : FVec Ideal S2x64 .f32) (b1 : FVec Ideal S64 .f32)
    (W2 : FVec Ideal S64x64 .f32) (b2 : FVec Ideal S64 .f32) : FVec Ideal S4096x8x64 .f32 :=
  second (addf (Host.dotGeneral (φ₂ := .f32) dot_S4096x8x2_S2x64_S4096x8x64_2_0_01_1_n_n none v W1) (bias b1)) W2 b2

/-- The two groups of features side by side, with twelve zero rows below. -/
def padded (p q : FVec Ideal S4096x8x64 .f32) : FVec Ideal S4096x20x128 .f32 :=
  pad S4096x20x128 ![0, 0, 0] ![0, 12, 0] ![0, 0, 0]
    (concatenate S4096x8x128 2 [⟨S4096x8x64, p⟩, ⟨S4096x8x64, q⟩] concatenates_S4096x8x64_S4096x8x64_S4096x8x128_d2)
    (sitofp .f32 (constantI S_ 32 0#32)) pads_S4096x8x128_S4096x20x128_000_0120_000 h_S_

/-- The features of one average at an agent and a sector. -/
theorem dense1_at (v : FVec Ideal S4096x8x1 .f32) (W1 : FVec Ideal S1x64 .f32) (b1 : FVec Ideal S64 .f32)
    (W2 : FVec Ideal S64x64 .f32) (b2 : FVec Ideal S64 .f32) (b : Fin 4096) (p : Fin 8) (j : Fin 64) :
    dense1 v W1 b1 W2 b2 (ix3 b p j)
      = features1 (v (ix3 b p 0)) (fun i => W1 (ix2 0 i)) (fun i => b1 (ix1 i)) (fun i j => W2 (ix2 i j)) (fun j => b2 (ix1 j)) j := by
  pointwise [dense1, second, bias]
  simp only [Fin.sum_univ_one]
  rfl

/-- The features of two averages at an agent and a sector. -/
theorem dense2_at (v : FVec Ideal S4096x8x2 .f32) (W1 : FVec Ideal S2x64 .f32) (b1 : FVec Ideal S64 .f32)
    (W2 : FVec Ideal S64x64 .f32) (b2 : FVec Ideal S64 .f32) (b : Fin 4096) (p : Fin 8) (j : Fin 64) :
    dense2 v W1 b1 W2 b2 (ix3 b p j)
      = features2 (v (ix3 b p 0)) (v (ix3 b p 1)) (fun e i => W1 (ix2 e i)) (fun i => b1 (ix1 i)) (fun i j => W2 (ix2 i j))
          (fun j => b2 (ix1 j)) j := by
  pointwise [dense2, second, bias]
  simp only [Fin.sum_univ_two]
  rfl

/-- The padded pair of feature groups at an agent, a row and a column. -/
theorem padded_at (f g : FVec Ideal S4096x8x64 .f32) (b : Fin 4096) (p : Fin 20) (c : Fin 128) :
    padded f g (ix3 b p c)
      = if hp : p.val < 8 then
          if hc : c.val < 64 then f (ix3 b ⟨p, hp⟩ ⟨c, hc⟩) else g (ix3 b ⟨p, hp⟩ ⟨c - 64, by omega⟩)
        else 0 := by
  pointwise [padded]
  by_cases hp : p.val < 8
  · rw [dif_pos hp, dif_pos hp]
  · rw [dif_neg hp, dif_neg hp]
    exact (by norm_num : (((0 : ℤ) : ℝ) : EReal) = 0)

section Value
variable (V0 : Valuation τ sig (Elt Ideal))

/-- The reference's returned array is the padded pair of feature groups, over the stacked averages of the
    neighbours' speeds, distances and directions. -/
theorem value_eq :
    (pad S4096x20x128 ![0, 0, 0] ![0, 12, 0] ![0, 0, 0] (res_main_v218 V0) (sitofp .f32 (constantI S_ 32 0#32))
        pads_S4096x8x128_S4096x20x128_000_0120_000 h_S_ : FVec Ideal S4096x20x128 .f32)
      = padded (dense1 (stack1 (res_main_v7 V0) (res_main_v27 V0)) (V0 (Proc.devRef .tc main_arg2)) (V0 (Proc.devRef .tc main_arg3))
            (V0 (Proc.devRef .tc main_arg4)) (V0 (Proc.devRef .tc main_arg5)))
          (dense2 (stack2 (res_main_v8 V0) (res_main_v14 V0) (res_main_v27 V0)) (V0 (Proc.devRef .tc main_arg6))
            (V0 (Proc.devRef .tc main_arg7)) (V0 (Proc.devRef .tc main_arg8)) (V0 (Proc.devRef .tc main_arg9))) := rfl

/-- The average of one value at an agent and a sector. -/
theorem stack1_mean (b : Fin 4096) (p : Fin 8) :
    stack1 (res_main_v7 V0) (res_main_v27 V0) (ix3 b p 0) = mean speed (BitVec.ofNat 32 p) (track V0 b) :=
  (stack1_at _ _ b p).trans ((row1_at _ _ _ b).trans (averages_mean _ _ _ b speed (track V0 b) (speed_at V0 b) (sector_at V0 b)))

/-- The average of the distances at an agent and a sector. -/
theorem stack2_dist (b : Fin 4096) (p : Fin 8) :
    stack2 (res_main_v8 V0) (res_main_v14 V0) (res_main_v27 V0) (ix3 b p 0) = mean dist (BitVec.ofNat 32 p) (track V0 b) :=
  (stack2_at _ _ _ b p 0).trans ((row2_fst _ _ _ _ b).trans (averages_mean _ _ _ b dist (track V0 b) (dist_at V0 b) (sector_at V0 b)))

/-- The average of the directions at an agent and a sector. -/
theorem stack2_direction (b : Fin 4096) (p : Fin 8) :
    stack2 (res_main_v8 V0) (res_main_v14 V0) (res_main_v27 V0) (ix3 b p 1) = mean direction (BitVec.ofNat 32 p) (track V0 b) :=
  (stack2_at _ _ _ b p 1).trans
    ((row2_snd _ _ _ _ b).trans (averages_mean _ _ _ b direction (track V0 b) (direction_at V0 b) (sector_at V0 b)))

/-- The first layer's weights for the speeds. -/
abbrev w1 : FVec Ideal S1x64 .f32 := V0 (Proc.devRef .tc main_arg2)
/-- The first layer's offsets for the speeds. -/
abbrev b1 : FVec Ideal S64 .f32 := V0 (Proc.devRef .tc main_arg3)
/-- The second layer's weights for the speeds. -/
abbrev w2 : FVec Ideal S64x64 .f32 := V0 (Proc.devRef .tc main_arg4)
/-- The second layer's offsets for the speeds. -/
abbrev b2 : FVec Ideal S64 .f32 := V0 (Proc.devRef .tc main_arg5)
/-- The first layer's weights for the distances and directions. -/
abbrev u1 : FVec Ideal S2x64 .f32 := V0 (Proc.devRef .tc main_arg6)
/-- The first layer's offsets for the distances and directions. -/
abbrev c1 : FVec Ideal S64 .f32 := V0 (Proc.devRef .tc main_arg7)
/-- The second layer's weights for the distances and directions. -/
abbrev u2 : FVec Ideal S64x64 .f32 := V0 (Proc.devRef .tc main_arg8)
/-- The second layer's offsets for the distances and directions. -/
abbrev c2 : FVec Ideal S64 .f32 := V0 (Proc.devRef .tc main_arg9)

/-- The reference returns, for each agent, the entries of the output. -/
theorem value_at (b : Fin 4096) (p : Fin 20) (c : Fin 128) :
    (pad S4096x20x128 ![0, 0, 0] ![0, 12, 0] ![0, 0, 0] (res_main_v218 V0) (sitofp .f32 (constantI S_ 32 0#32))
        pads_S4096x8x128_S4096x20x128_000_0120_000 h_S_ : FVec Ideal S4096x20x128 .f32) (ix3 b p c)
      = entry (track V0 b) (fun i => w1 V0 (ix2 0 i)) (fun i => b1 V0 (ix1 i)) (fun i j => w2 V0 (ix2 i j))
          (fun j => b2 V0 (ix1 j)) (fun e i => u1 V0 (ix2 e i)) (fun i => c1 V0 (ix1 i)) (fun i j => u2 V0 (ix2 i j))
          (fun j => c2 V0 (ix1 j)) p c := by
  rw [value_eq, padded_at, entry]
  by_cases hp : p.val < 8
  · rw [dif_pos hp, if_pos hp]
    by_cases hc : c.val < 64
    · rw [dif_pos hc, dif_pos hc, dense1_at, stack1_mean]
    · rw [dif_neg hc, dif_neg hc, dense2_at, stack2_dist, stack2_direction]
  · rw [dif_neg hp, if_neg hp]

end Value

end Cert.ReferenceIdeal.Own

end

end
-- ==== Proof.Equation.lean ====
/- The equation: from the same arguments, the array the reference returns is the array the kernel leaves. -/
module

public import proofs.«01_k».proof.Proof.Array
public import proofs.«01_k».proof.Proof.RefValue

@[expose] public section

set_option maxRecDepth 16384

noncomputable section

namespace Cert.Own

open Idealize.ShloMosaic Idealize.ShloMosaic.TcCoe Idealize.SL.Sem
open Cert.ReferenceIdeal Cert.ReferenceIdeal.Gen Cert.ReferenceIdeal.Value Cert.ReferenceIdeal.Own

variable (V0 : Valuation τ sig (Elt Ideal))

/-- The reference's returned array is the array of the output's entries, of the reference's own arguments. -/
theorem returned_eq :
    (pad S4096x20x128 ![0, 0, 0] ![0, 12, 0] ![0, 0, 0] (res_main_v218 V0) (sitofp .f32 (constantI S_ 32 0#32))
        pads_S4096x8x128_S4096x20x128_000_0120_000 h_S_ : FVec Ideal S4096x20x128 .f32)
      = Cert.KernelIdeal.Own.result (coords V0) (w1 V0) (b1 V0) (w2 V0) (b2 V0) (u1 V0) (c1 V0) (u2 V0) (c2 V0) := by
  funext i
  exact (congrArg _ (eq_ix3 i)).trans (value_at V0 (i 0) (i 1) (i 2))

end Cert.Own

end

end
-- ==== Proof.lean ====
/- The five claims about the kernel: the printed kernel and its ideal form run from every memory and leave
   their arguments and semaphores alone, so does the reference, the ideal form is the kernel with nothing
   rewritten, and over the extended reals the kernel's result is the reference's at every index. The
   mathematics is in the modules of Proof/; this file puts the parts together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel, at any float values, runs to the end, its arguments unchanged and its semaphores at zero. -/
theorem frame_kernel : Cert.quiescent_Kernel := fun m ρ _ => Cert.Kernel.Gen.frame m ρ

/-- So does its ideal form. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference, from equal arguments, end with equal results: both
    hold the array of the output's entries. -/
theorem algebraic : Cert.algebraic_KernelIdeal_ReferenceIdeal := by
  intro m ρ m' ρ' _ hagree
  refine ⟨fun c => (Cert.KernelIdeal.Gen.dats m 0 c).arrAt 9 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5, h6, h7, h8, h9⟩ := hagree c
  refine (Cert.Own.returned_eq (StableHlo.launchContents m' c)).trans ?_
  refine Eq.trans ?_ (Cert.KernelIdeal.Own.final m c).symm
  rw [← h1, ← h2, ← h3, ← h4, ← h5, ← h6, ← h7, ← h8, ← h9]

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
